-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "s" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S8x2048 : Shape := ⟨2, ![8, 2048]⟩
abbrev S1024x4096 : Shape := ⟨2, ![1024, 4096]⟩
abbrev S4096 : Shape := ⟨1, ![4096]⟩
abbrev S4096x4096 : Shape := ⟨2, ![4096, 4096]⟩
abbrev S16384x1024 : Shape := ⟨2, ![16384, 1024]⟩
abbrev S1x4096 : Shape := ⟨2, ![1, 4096]⟩
abbrev S16384x4096 : Shape := ⟨2, ![16384, 4096]⟩
abbrev S128x1024 : Shape := ⟨2, ![128, 1024]⟩
abbrev S128x4096 : Shape := ⟨2, ![128, 4096]⟩
abbrev S8x2048x4096 : Shape := ⟨3, ![8, 2048, 4096]⟩

abbrev nBuf : Space → Nat
  | .hbm => 13
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .f32⟩
  | .hbm, ⟨2, _⟩ => ⟨S1024x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S16384x1024, .f32⟩
  | .hbm, ⟨7, _⟩ => ⟨S1024x4096, .bf16⟩
  | .hbm, ⟨8, _⟩ => ⟨S4096x4096, .bf16⟩
  | .hbm, ⟨9, _⟩ => ⟨S1x4096, .f32⟩
  | .hbm, ⟨10, _⟩ => ⟨S1x4096, .f32⟩
  | .hbm, ⟨11, _⟩ => ⟨S16384x4096, .f32⟩
  | .hbm, ⟨12, _⟩ => ⟨S8x2048x4096, .f32⟩
  | .local _ .vmem, ⟨0, _⟩ => ⟨S128x1024, .f32⟩
  | .local _ .vmem, ⟨1, _⟩ => ⟨S128x1024, .f32⟩
  | .local _ .vmem, ⟨2, _⟩ => ⟨S1024x4096, .bf16⟩
  | .local _ .vmem, ⟨3, _⟩ => ⟨S1x4096, .f32⟩
  | .local _ .vmem, ⟨4, _⟩ => ⟨S4096x4096, .bf16⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "s" => some (((Real.sqrt 2)⁻¹ : ℝ) : EReal)
  | _ => none
-- ==== ReferenceIdeal.lean ====
abbrev S8x2048x1024 : Shape := ⟨3, ![8, 2048, 1024]⟩
abbrev S8x2048 : Shape := ⟨2, ![8, 2048]⟩
abbrev S1024x4096 : Shape := ⟨2, ![1024, 4096]⟩
abbrev S4096 : Shape := ⟨1, ![4096]⟩
abbrev S4096x4096 : Shape := ⟨2, ![4096, 4096]⟩
abbrev S8x2048x4096 : Shape := ⟨3, ![8, 2048, 4096]⟩
abbrev S1x1x4096 : Shape := ⟨3, ![1, 1, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .f32⟩
  | .hbm, ⟨2, _⟩ => ⟨S1024x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S8x2048x4096, .f32⟩
  | .hbm, ⟨7, _⟩ => ⟨S1x1x4096, .f32⟩
  | .hbm, ⟨8, _⟩ => ⟨S8x2048x4096, .f32⟩
  | .hbm, ⟨9, _⟩ => ⟨S8x2048x4096, .f32⟩
  | .hbm, ⟨10, _⟩ => ⟨S_, .f32⟩
  | .hbm, ⟨11, _⟩ => ⟨S8x2048x4096, .f32⟩
  | .hbm, ⟨12, _⟩ => ⟨S8x2048x4096, .f32⟩
  | .hbm, ⟨13, _⟩ => ⟨S8x2048x4096, .f32⟩
  | .hbm, ⟨14, _⟩ => ⟨S_, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S1x1x4096, .f32⟩
  | .hbm, ⟨22, _⟩ => ⟨S8x2048x4096, .f32⟩
  | .hbm, ⟨23, _⟩ => ⟨S8x2048x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Mlp.Function.lean ====
/-
  The function both programs compute, over the extended reals: one row of a two-layer perceptron with the exact gelu,
  written once, in plain sums; and the float constants of the two programs as the reals they stand for.
-/
module

public import Idealize.ShloMosaic.PureOps.Ideal
public import Idealize.ShloMosaic.PureOps.Ideal.Laws
public import Idealize.ShloMosaic.Lib.IdealHost

@[expose] public section

noncomputable section

namespace Cert.Mlp

open Idealize.ShloMosaic

/-- The exact gelu: `z · (1/2 · (1 + erf (z / √2)))`. -/
def gelu (z : EReal) : EReal :=
  z * (((1 / 2 : ℝ) : EReal) * (1 + Ideal.erf (z * (((Real.sqrt 2)⁻¹ : ℝ) : EReal))))

/-- Output `j` of the perceptron at one token `x`: `∑ k, gelu (∑ d, x d · w1 d k + b1 k) · w2 k j + b2 j`. -/
def row (x : Fin 1024 → EReal) (w1 : Fin 1024 → Fin 4096 → EReal) (b1 : Fin 4096 → EReal)
    (w2 : Fin 4096 → Fin 4096 → EReal) (b2 : Fin 4096 → EReal) (j : Fin 4096) : EReal :=
  (∑ k : Fin 4096, gelu ((∑ d : Fin 1024, x d * w1 d k) + b1 k) * w2 k j) + b2 j

/-- The f32 word of `0.5` stands for the real one half. -/
theorem ofBits_half : Ideal.ofBits .f32 0x3F000000#32 = ((1 / 2 : ℝ) : EReal) := by
  simp [Ideal.ofBits, Ideal.ieee, -EReal.coe_mul]; norm_num

/-- The root of one half, taken over the extended reals, is `1/√2`. -/
theorem sqrt_half : Ideal.sqrt ((1 / 2 : ℝ) : EReal) = (((Real.sqrt 2)⁻¹ : ℝ) : EReal) := by
  rw [Ideal.sqrt_coe, if_neg (by norm_num), one_div, Real.sqrt_inv]

/-- The gelu as the host writes it, `1/2 · z · erfc (−z · 1/√2)`, is the gelu: `erfc (−y) = 1 + erf y`. -/
theorem gelu_erfc (z : EReal) :
    ((1 / 2 : ℝ) : EReal) * z * Ideal.erfc (-z * (((Real.sqrt 2)⁻¹ : ℝ) : EReal)) = gelu z := by
  rw [gelu, neg_mul, Ideal.erfc_neg, mul_comm ((1 / 2 : ℝ) : EReal) z, mul_assoc]

end Cert.Mlp

end
-- ==== Proof.Mlp.Block.lean ====
/-
  What the kernel's body computes from the blocks it loads, at one index of its output block: the perceptron's row.
-/
module

public import proofs.«01_k».proof.Proof.Gen.KernelIdeal.Skeleton
public import proofs.«01_k».proof.Proof.Mlp.Function
public import Idealize.ShloMosaic.Lib.Pointwise

@[expose] public section

noncomputable section

namespace Cert.Mlp

open Cert.KernelIdeal Cert.KernelIdeal.Gen Idealize.ShloMosaic

/-- The kernel's named constant stands for `1/√2`. -/
theorem named_s :
    Named.named (F := Ideal) Cert.KernelIdeal.κ "s" (φ := .f32) 0x3F3504F3#32 = (((Real.sqrt 2)⁻¹ : ℝ) : EReal) :=
  IdealRules.named_const.ideal_named_scalar _ _ _ _ rfl

/-- The body's stored value at `(r, j)` is output `j` of the perceptron at row `r` of the token block. -/
theorem payload_apply (x : FVec Ideal S128x1024 .f32) (w1 : FVec Ideal S1024x4096 .bf16) (b1 : FVec Ideal S1x4096 .f32)
    (w2 : FVec Ideal S4096x4096 .bf16) (b2 : FVec Ideal S1x4096 .f32) (r : Fin 128) (j : Fin 4096) :
    k0_pay1 (F := Ideal) x w1 b1 w2 b2 (ix2 r j)
      = row (fun d => x (ix2 r d)) (fun d k => w1 (ix2 d k)) (fun k => b1 (ix2 0 k)) (fun k l => w2 (ix2 k l))
          (fun k => b2 (ix2 0 k)) j := by
  unfold k0_pay1 row
  pointwise
  simp only [named_s, ofBits_half, gelu]
  rfl

end Cert.Mlp

end
-- ==== Proof.Mlp.Array.lean ====
/-
  What the kernel's output array holds after the run, and its result after the reshape that follows: at every index the
  perceptron's row. Point `t` of the grid writes rows `128·t … 128·t + 127`; the 128 blocks tile the 16384 rows.
-/
module

public import proofs.«01_k».proof.Proof.Gen.KernelIdeal.Frame
public import proofs.«01_k».proof.Proof.Mlp.Block
public import Idealize.ShloMosaic.Lib.Pipeline.Value

@[expose] public section

noncomputable section

namespace Cert.Mlp

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arrays the launch reads -/

/-- The tokens, flattened to 16384 rows, as they stand when the launch starts. -/
abbrev tokens (c : Dev nD) : FVec Ideal S16384x1024 .f32 := V m c main_v0
/-- The first layer's weights, as the launch reads them. -/
abbrev weights1 (c : Dev nD) : FVec Ideal S1024x4096 .bf16 := V m c main_v1
/-- The first layer's bias, as the launch reads it. -/
abbrev bias1 (c : Dev nD) : FVec Ideal S1x4096 .f32 := V m c main_v3
/-- The second layer's weights, as the launch reads them. -/
abbrev weights2 (c : Dev nD) : FVec Ideal S4096x4096 .bf16 := V m c main_v2
/-- The second layer's bias, as the launch reads it. -/
abbrev bias2 (c : Dev nD) : FVec Ideal S1x4096 .f32 := V m c main_v4

/-- The whole output array as one function: at `(r, j)`, output `j` of the perceptron at token row `r`. -/
def flat (c : Dev nD) : FVec Ideal S16384x4096 .f32 := fun i =>
  row (fun d => tokens m c (ix2 (i 0) d)) (fun d k => weights1 m c (ix2 d k)) (fun k => bias1 m c (ix2 0 k))
    (fun k l => weights2 m c (ix2 k l)) (fun k => bias2 m c (ix2 0 k)) (i 1)

/-! ## The blocks -/

/-- Where each window's block sits at point `t`: the tokens' and the output's at block row `t`, the others at the
    array's origin. -/
theorem places : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = t.val ∧ win0_5.index t 1 = 0))

/-- A grid point is below 128. -/
theorem point_lt (t : Fin cfg0.N) : t.val < 128 := by have h := t.isLt; have e : cfg0.N = 128 := N_0; omega

/-- Row `r` of block `t` among the 16384 rows. -/
def rowOf (t : Fin cfg0.N) (r : Fin 128) : Fin 16384 := ⟨t.val * 128 + r.val, by have := point_lt t; omega⟩

/-- The token block of point `t` at `(r, d)` is the token array at row `128·t + r`. -/
theorem block_tokens (c : Dev nD) (t : Fin cfg0.N) (r : Fin 128) (d : Fin 1024) :
    (iblk m c 0 t : FVec Ideal S128x1024 .f32) (ix2 r d) = tokens m c (ix2 (rowOf t r) d) := by
  show V m c main_v0 ((win0_0.rect t).emb (ix2 r d)) = _
  refine congrArg (V m c main_v0) (funext fun a => Fin.ext ?_)
  match a with
  | ⟨0, _⟩ => exact (Pipeline.Window.rect_emb_val win0_0 t (ix2 r d) 0).trans (congrArg (· * 128 + r.val) (places t).1.1)
  | ⟨1, _⟩ => exact Pipeline.Window.rect_emb_val_of_index_zero win0_0 t 1 (places t).1.2 _

/-- The block of the first layer's weights is the whole array at every point. -/
theorem block_weights1 (c : Dev nD) (t : Fin cfg0.N) (d : Fin 1024) (k : Fin 4096) :
    (iblk m c 1 t : FVec Ideal S1024x4096 .bf16) (ix2 d k) = weights1 m c (ix2 d k) := by
  show V m c main_v1 ((win0_1.rect t).emb (ix2 d k)) = _
  refine congrArg (V m c main_v1) (funext fun a => Fin.ext ?_)
  match a with
  | ⟨0, _⟩ => exact Pipeline.Window.rect_emb_val_of_index_zero win0_1 t 0 (places t).2.1.1 _
  | ⟨1, _⟩ => exact Pipeline.Window.rect_emb_val_of_index_zero win0_1 t 1 (places t).2.1.2 _

/-- The block of the first layer's bias is the whole array at every point. -/
theorem block_bias1 (c : Dev nD) (t : Fin cfg0.N) (k : Fin 4096) :
    (iblk m c 2 t : FVec Ideal S1x4096 .f32) (ix2 0 k) = bias1 m c (ix2 0 k) := by
  show V m c main_v3 ((win0_2.rect t).emb (ix2 0 k)) = _
  refine congrArg (V m c main_v3) (funext fun a => Fin.ext ?_)
  match a with
  | ⟨0, _⟩ => exact Pipeline.Window.rect_emb_val_of_index_zero win0_2 t 0 (places t).2.2.1.1 _
  | ⟨1, _⟩ => exact Pipeline.Window.rect_emb_val_of_index_zero win0_2 t 1 (places t).2.2.1.2 _

/-- The block of the second layer's weights is the whole array at every point. -/
theorem block_weights2 (c : Dev nD) (t : Fin cfg0.N) (k l : Fin 4096) :
    (iblk m c 3 t : FVec Ideal S4096x4096 .bf16) (ix2 k l) = weights2 m c (ix2 k l) := by
  show V m c main_v2 ((win0_3.rect t).emb (ix2 k l)) = _
  refine congrArg (V m c main_v2) (funext fun a => Fin.ext ?_)
  match a with
  | ⟨0, _⟩ => exact Pipeline.Window.rect_emb_val_of_index_zero win0_3 t 0 (places t).2.2.2.1.1 _
  | ⟨1, _⟩ => exact Pipeline.Window.rect_emb_val_of_index_zero win0_3 t 1 (places t).2.2.2.1.2 _

/-- The block of the second layer's bias is the whole array at every point. -/
theorem block_bias2 (c : Dev nD) (t : Fin cfg0.N) (k : Fin 4096) :
    (iblk m c 4 t : FVec Ideal S1x4096 .f32) (ix2 0 k) = bias2 m c (ix2 0 k) := by
  show V m c main_v4 ((win0_4.rect t).emb (ix2 0 k)) = _
  refine congrArg (V m c main_v4) (funext fun a => Fin.ext ?_)
  match a with
  | ⟨0, _⟩ => exact Pipeline.Window.rect_emb_val_of_index_zero win0_4 t 0 (places t).2.2.2.2.1.1 _
  | ⟨1, _⟩ => exact Pipeline.Window.rect_emb_val_of_index_zero win0_4 t 1 (places t).2.2.2.2.1.2 _

/-- Element `(r, j)` of the output block of point `t` sits at row `128·t + r`, column `j` of the output array. -/
theorem emb_out (t : Fin cfg0.N) (r : Fin 128) (j : Fin 4096) :
    ((win0_5.rect t).emb (ix2 r j) : S16384x4096.Idx) = ix2 (rowOf t r) j := by
  refine funext fun a => Fin.ext ?_
  match a with
  | ⟨0, _⟩ => exact (Pipeline.Window.rect_emb_val win0_5 t (ix2 r j) 0).trans (congrArg (· * 128 + r.val) (places t).2.2.2.2.2.1)
  | ⟨1, _⟩ => exact Pipeline.Window.rect_emb_val_of_index_zero win0_5 t 1 (places t).2.2.2.2.2.2 _

/-! ## The array after the run -/

/-- The zero offsets of a whole-block access. -/
theorem zeros : (![0, 0] : Fin 2 → Nat) = fun _ => 0 := funext fun a => by fin_cases a <;> rfl

/-- What the body leaves in the output block is its payload of the input blocks. -/
theorem out_eq (x : FVec Ideal S128x1024 .f32) (w1 : FVec Ideal S1024x4096 .bf16) (b1 : FVec Ideal S1x4096 .f32)
    (w2 : FVec Ideal S4096x4096 .bf16) (b2 : FVec Ideal S1x4096 .f32) :
    out0_5 (F := Ideal) x w1 b1 w2 b2 = k0_pay1 (F := Ideal) x w1 b1 w2 b2 := by
  unfold out0_5
  rw [View.canon_unit_zero zeros, View.ld_unit_zero zeros, View.ld_unit_zero zeros, View.ld_unit_zero zeros,
    View.ld_unit_zero zeros, View.ld_unit_zero zeros]

/-- What point `t` writes back is block `t` of `flat`. -/
theorem written (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5, out_eq]
  refine funext fun (y : S128x4096.Idx) => ?_
  obtain ⟨r, j, rfl⟩ : ∃ r j, y = ix2 r j := ⟨y 0, y 1, funext fun a => by fin_cases a <;> rfl⟩
  show k0_pay1 (F := Ideal) (iblk m c 0 t) (iblk m c 1 t) (iblk m c 2 t) (iblk m c 3 t) (iblk m c 4 t) (ix2 r j)
    = flat m c ((win0_5.rect t).emb (ix2 r j))
  rw [emb_out, payload_apply]
  simp only [block_tokens, block_weights1, block_bias1, block_weights2, block_bias2]
  rfl

/-- The blocks cover the output array: row `i` is in block `i / 128`. -/
theorem covered (i : S16384x4096.Idx) :
    ∃ t : Fin cfg0.N, (cfg0.win 5).flush t = true ∧ i ∈ ((cfg0.win 5).blk t).view.set := by
  have h0 : (i 0).val < 16384 := (i 0).isLt
  have hN : cfg0.N = 128 := N_0
  let t : Fin cfg0.N := ⟨(i 0).val / 128, by omega⟩
  refine ⟨t, flush0_5 t, ?_⟩
  show i ∈ ((View.whole main_v5).slice (win0_5.rect t)).set
  rw [View.set_slice_whole]
  let r : Fin 128 := ⟨(i 0).val % 128, Nat.mod_lt _ (by decide)⟩
  let j : Fin 4096 := i 1
  have e : i = (win0_5.rect t).emb (ix2 r j) := by
    refine Eq.trans (funext fun a => Fin.ext ?_) (emb_out t r j).symm
    match a with
    | ⟨0, _⟩ => exact (Nat.div_add_mod' (i 0).val 128).symm
    | ⟨1, _⟩ => rfl
  rw [← Rect.map_emb_univ, e]
  exact Finset.mem_map_of_mem _ (Finset.mem_univ _)

/-- So the output array ends holding `flat`. -/
theorem array_eq (c : Dev nD) : (dats m 0 c).arrAt 5 cfg0.N = flat m c :=
  (dats m 0 c).arrAt_eq_of_cover 5 (flat m c) (fun t _ => written m c t) covered

/-! ## The result, and the run -/

/-- The result array: the output array reshaped to batch, position and feature. -/
def result (c : Dev nD) : FVec Ideal S8x2048x4096 .f32 :=
  shapeCast S8x2048x4096 (flat m c) shapeCasts_S16384x4096_S8x2048x4096

/-- The reshape after the launch leaves the result array at `result`. -/
theorem tail_eq (c : Dev nD) :
    Pipeline.afterTail₀ cfgs (dats m) 0 (V0 m) [hostOps1] c main_v6 = result m c := by
  unfold Pipeline.afterTail₀
  have e : Pipeline.withArrays (cfgs 0).spec c (V0 m c) (fun w => (dats m 0 c).arrAt w (cfgs 0).N) (Proc.devRef .tc main_v5)
      = flat m c :=
    (Pipeline.withArrays_arr spec0 (winFacts0.arr_inj) c (V0 m c) _ 5).trans (array_eq m c)
  generalize Pipeline.withArrays (cfgs 0).spec c (V0 m c) (fun w => (dats m 0 c).arrAt w (cfgs 0).N) = W at e ⊢
  show StableHlo.after (hostOps1 (F := Ideal)) W (Proc.devRef .tc main_v6) = _
  after_results
  rw [e]; rfl

/-- The run: the result array at `result`, every argument unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Mlp

end
-- ==== Proof.Mlp.Reference.lean ====
/-
  What the reference computes at one index of its result: the perceptron's row.
-/
module

public import proofs.«01_k».proof.Proof.Gen.ReferenceIdeal.Run
public import proofs.«01_k».proof.Proof.Mlp.Function
public import Idealize.ShloMosaic.Lib.Pointwise

@[expose] public section

noncomputable section

namespace Cert.Mlp.Ref

open Cert.ReferenceIdeal Cert.ReferenceIdeal.Gen Idealize.ShloMosaic

/-- The reference's hidden layer before the gelu: `x · W1 + b1`, as the host writes it. -/
def hidden (x : FVec Ideal S8x2048x1024 .f32) (w1 : FVec Ideal S1024x4096 .f32) (b1 : FVec Ideal S4096 .f32) :
    FVec Ideal S8x2048x4096 .f32 :=
  addf (Host.dotGeneral dot_S8x2048x1024_S1024x4096_S8x2048x4096_2_0_01_1_n_n none x w1)
    (broadcastInDim S8x2048x4096 ![0, 1, 2] bcast_S1x1x4096_S8x2048x4096_0_1_2
      (broadcastInDim S1x1x4096 ![2] bcast_S4096_S1x1x4096_2 b1))

/-- The reference's gelu of an array, as the host writes it. -/
def act (h : FVec Ideal S8x2048x4096 .f32) : FVec Ideal S8x2048x4096 .f32 :=
  mulf (mulf (broadcastInDim S8x2048x4096 ![] bcast_S_S8x2048x4096 (constant S_ .f32 0x3F000000#32)) h)
    (Host.erfc (mulf (Host.negf h)
      (broadcastInDim S8x2048x4096 ![] bcast_S_S8x2048x4096 (Host.sqrt (constant S_ .f32 0x3F000000#32)))))

/-- The reference's result: the second layer over the gelu of the first. -/
def output (x : FVec Ideal S8x2048x1024 .f32) (w1 : FVec Ideal S1024x4096 .f32) (b1 : FVec Ideal S4096 .f32)
    (w2 : FVec Ideal S4096x4096 .f32) (b2 : FVec Ideal S4096 .f32) : FVec Ideal S8x2048x4096 .f32 :=
  addf (Host.dotGeneral dot_S8x2048x4096_S4096x4096_S8x2048x4096_2_0_01_1_n_n none (act (hidden x w1 b1)) w2)
    (broadcastInDim S8x2048x4096 ![0, 1, 2] bcast_S1x1x4096_S8x2048x4096_0_1_2
      (broadcastInDim S1x1x4096 ![2] bcast_S4096_S1x1x4096_2 b2))

/-- The hidden layer at `(b, s, k)` is the sum over the features, plus the bias. -/
theorem hidden_apply (x : FVec Ideal S8x2048x1024 .f32) (w1 : FVec Ideal S1024x4096 .f32) (b1 : FVec Ideal S4096 .f32)
    (b : Fin 8) (s : Fin 2048) (k : Fin 4096) :
    hidden x w1 b1 (ix3 b s k) = (∑ d : Fin 1024, x (ix3 b s d) * w1 (ix2 d k)) + b1 (ix1 k) := by
  unfold hidden
  pointwise

/-- The reference's gelu at an index is the gelu of the element. -/
theorem act_apply (h : FVec Ideal S8x2048x4096 .f32) (i : S8x2048x4096.Idx) : act h i = gelu (h i) := by
  unfold act
  rw [← gelu_erfc, ← sqrt_half, ← ofBits_half]
  pointwise

/-- The reference's result at `(b, s, j)` is output `j` of the perceptron at token `(b, s)`. -/
theorem output_apply (x : FVec Ideal S8x2048x1024 .f32) (w1 : FVec Ideal S1024x4096 .f32) (b1 : FVec Ideal S4096 .f32)
    (w2 : FVec Ideal S4096x4096 .f32) (b2 : FVec Ideal S4096 .f32) (b : Fin 8) (s : Fin 2048) (j : Fin 4096) :
    output x w1 b1 w2 b2 (ix3 b s j)
      = row (fun d => x (ix3 b s d)) (fun d k => w1 (ix2 d k)) (fun k => b1 (ix1 k)) (fun k l => w2 (ix2 k l))
          (fun k => b2 (ix1 k)) j := by
  unfold output row
  pointwise
  simp only [act_apply, hidden_apply]

end Cert.Mlp.Ref

end
-- ==== Proof.Mlp.Equation.lean ====
/-
  The equation: the kernel's result array is the reference's result on the same arguments, at every index.
-/
module

public import proofs.«01_k».proof.Proof.Mlp.Array
public import proofs.«01_k».proof.Proof.Mlp.Reference

@[expose] public section

noncomputable section

namespace Cert.Mlp

open Cert.KernelIdeal Cert.KernelIdeal.Gen Idealize.ShloMosaic Idealize.ShloMosaic.TcCoe

variable (m : (ℓ : Loc nD τ sig) → Buf (Elt Ideal) ℓ)

/-- The kernel's argument `x`. -/
abbrev argX (c : Dev nD) : FVec Ideal S8x2048x1024 .f32 := m ((c.tc : Thread nD τ).loc main_arg0)
/-- The kernel's argument `W1`. -/
abbrev argW1 (c : Dev nD) : FVec Ideal S1024x4096 .f32 := m ((c.tc : Thread nD τ).loc main_arg2)
/-- The kernel's argument `b1`. -/
abbrev argB1 (c : Dev nD) : FVec Ideal S4096 .f32 := m ((c.tc : Thread nD τ).loc main_arg3)
/-- The kernel's argument `W2`. -/
abbrev argW2 (c : Dev nD) : FVec Ideal S4096x4096 .f32 := m ((c.tc : Thread nD τ).loc main_arg4)
/-- The kernel's argument `b2`. -/
abbrev argB2 (c : Dev nD) : FVec Ideal S4096 .f32 := m ((c.tc : Thread nD τ).loc main_arg5)

/-- The tokens the launch reads are `x` flattened to rows. -/
theorem tokens_eq (c : Dev nD) :
    tokens m c = shapeCast S16384x1024 (argX m c) shapeCasts_S8x2048x1024_S16384x1024 := by
  show StableHlo.after (hostOps0 (F := Ideal)) (fun b => m (c, b)) (Proc.devRef .tc main_v0) = _
  after_results
  rfl

/-- The first layer's weights the launch reads are `W1`. -/
theorem weights1_eq (c : Dev nD) : weights1 m c = argW1 m c := by
  show StableHlo.after (hostOps0 (F := Ideal)) (fun b => m (c, b)) (Proc.devRef .tc main_v1) = _
  after_results
  rfl

/-- The second layer's weights the launch reads are `W2`. -/
theorem weights2_eq (c : Dev nD) : weights2 m c = argW2 m c := by
  show StableHlo.after (hostOps0 (F := Ideal)) (fun b => m (c, b)) (Proc.devRef .tc main_v2) = _
  after_results
  rfl

/-- The first layer's bias the launch reads is `b1` as one row. -/
theorem bias1_eq (c : Dev nD) : bias1 m c = shapeCast S1x4096 (argB1 m c) shapeCasts_S4096_S1x4096 := by
  show StableHlo.after (hostOps0 (F := Ideal)) (fun b => m (c, b)) (Proc.devRef .tc main_v3) = _
  after_results
  rfl

/-- The second layer's bias the launch reads is `b2` as one row. -/
theorem bias2_eq (c : Dev nD) : bias2 m c = shapeCast S1x4096 (argB2 m c) shapeCasts_S4096_S1x4096 := by
  show StableHlo.after (hostOps0 (F := Ideal)) (fun b => m (c, b)) (Proc.devRef .tc main_v4) = _
  after_results
  rfl

/-- Row of the flattened tokens that holds token `(b, s)`. -/
def flatRow (b : Fin 8) (s : Fin 2048) : Fin 16384 := ⟨b.val * 2048 + s.val, by omega⟩

/-- The flattened tokens at row `2048·b + s` are the token `(b, s)`. -/
theorem tokens_apply (c : Dev nD) (b : Fin 8) (s : Fin 2048) (d : Fin 1024) :
    tokens m c (ix2 (flatRow b s) d) = argX m c (ix3 b s d) := by
  rw [tokens_eq]
  refine shapeCast_apply _ _ _ _ ?_
  rw [Shape.rowMajor_val_two, Shape.rowMajor_val_three]
  rfl

/-- The first bias row at `k` is `b1` at `k`. -/
theorem bias1_apply (c : Dev nD) (k : Fin 4096) : bias1 m c (ix2 0 k) = argB1 m c (ix1 k) := by
  rw [bias1_eq]
  refine shapeCast_apply _ _ _ _ ?_
  rw [Shape.rowMajor_val_two, Shape.rowMajor_val_one]
  show k.val = 0 * 4096 + k.val
  omega

/-- The second bias row at `k` is `b2` at `k`. -/
theorem bias2_apply (c : Dev nD) (k : Fin 4096) : bias2 m c (ix2 0 k) = argB2 m c (ix1 k) := by
  rw [bias2_eq]
  refine shapeCast_apply _ _ _ _ ?_
  rw [Shape.rowMajor_val_two, Shape.rowMajor_val_one]
  show k.val = 0 * 4096 + k.val
  omega

/-- The kernel's result at `(b, s, j)` is output `j` of the perceptron at token `(b, s)`, over the arguments. -/
theorem result_apply (c : Dev nD) (b : Fin 8) (s : Fin 2048) (j : Fin 4096) :
    result m c (ix3 b s j)
      = row (fun d => argX m c (ix3 b s d)) (fun d k => argW1 m c (ix2 d k)) (fun k => argB1 m c (ix1 k))
          (fun k l => argW2 m c (ix2 k l)) (fun k => argB2 m c (ix1 k)) j := by
  have e : result m c (ix3 b s j) = flat m c (ix2 (flatRow b s) j) := by
    unfold result
    refine shapeCast_apply _ _ _ _ ?_
    rw [Shape.rowMajor_val_two, Shape.rowMajor_val_three]
    rfl
  rw [e]
  show row (fun d => tokens m c (ix2 (flatRow b s) d)) (fun d k => weights1 m c (ix2 d k)) (fun k => bias1 m c (ix2 0 k))
    (fun k l => weights2 m c (ix2 k l)) (fun k => bias2 m c (ix2 0 k)) j = _
  rw [funext fun d => tokens_apply m c b s d, weights1_eq, funext fun k => bias1_apply m c k, weights2_eq,
    funext fun k => bias2_apply m c k]

/-- The kernel's result is the reference's on the same arguments. -/
theorem result_eq (c : Dev nD) :
    result m c = Ref.output (argX m c) (argW1 m c) (argB1 m c) (argW2 m c) (argB2 m c) := by
  refine funext fun i => ?_
  obtain ⟨b, s, j, rfl⟩ : ∃ (b : Fin 8) (s : Fin 2048) (j : Fin 4096), i = ix3 b s j :=
    ⟨i 0, i 1, i 2, funext fun a => by fin_cases a <;> rfl⟩
  exact (result_apply m c b s j).trans (Ref.output_apply _ _ _ _ _ b s j).symm

end Cert.Mlp

end
-- ==== Proof.lean ====
/-
  The proof of the certificate's claim: the two kernel programs and the reference run to the end with their arguments
  unchanged, the idealization preserves the kernel's named constant, and the idealized kernel computes the reference's
  results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Mlp.Equation
public import Idealize.ShloMosaic.Lib.Quiescent

@[expose] public section

noncomputable section

namespace Cert.Proof

open Idealize.ShloMosaic Idealize.SL.Sem

/-- The kernel, at the machine's words, ends with its arguments unchanged and every counter at zero. -/
theorem frame_kernel : Cert.quiescent_Kernel := fun m ρ _ => Cert.Kernel.Gen.frame m ρ

/-- The idealized kernel ends with its arguments unchanged and every counter at zero. -/
theorem frame_ideal : Cert.quiescent_KernelIdeal := fun m ρ _ => Cert.KernelIdeal.Gen.frame m ρ

/-- The reference ends with its arguments unchanged and every counter at zero. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The one constant the idealization names, `s`, reads over the extended reals as the value named for it, `1/√2`. -/
theorem preserved : Cert.preserves_Kernel_KernelIdeal :=
  IdealRules.named_const.statement Cert.KernelIdeal.κ "s" .f32 0x3F3504F3#32 (((Real.sqrt 2)⁻¹ : ℝ) : EReal) rfl

/-- Over the extended reals the kernel and the reference, run on the same arguments, end with the same two results:
    the perceptron's output (`Cert.Mlp.result_eq`) and the masks, passed through. -/
theorem value : Cert.algebraic_KernelIdeal_ReferenceIdeal := by
  intro m ρ m' ρ' _ same
  refine ⟨fun c => Cert.Mlp.result m c,
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩) (Cert.Mlp.run m ρ)
  · refine (θ_run Cert.ReferenceIdeal.defs _ _).mono (fun r h c => ⟨(h c).1.trans ?_, (h c).2.1.trans (same c).2.1, (h c).2.2⟩)
      (Cert.ReferenceIdeal.Value.run (F := Ideal) m' ρ')
    obtain ⟨e0, _, e2, e3, e4, e5⟩ := same c
    rw [e0, e2, e3, e4, e5]
    exact (Cert.Mlp.result_eq m c).symm

/-- Everything the certificate claims. -/
theorem claim : Cert.Claim :=
  ⟨Cert.Kernel.Gen.facts, Cert.KernelIdeal.Gen.facts, Cert.ReferenceIdeal.Gen.facts,
    frame_kernel, frame_ideal, frame_reference, preserved, value⟩

end Cert.Proof

end
